-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook [hPre_codebook : Cert.Pre_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook [hPre_codebook : Cert.Pre_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebook [hKernelIdeal : Cert.KernelIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebook [hReferenceIdeal : Cert.ReferenceIdeal.Facts] [hPre_codebook : Cert.Pre_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebook [hKernelIdeal : Cert.KernelIdeal.Facts] [hReferenceIdeal : Cert.ReferenceIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebook : Cert.Pre_codebook.Facts),
    quiescent_Kernel (hKernel := hKernel)
    ∧ quiescent_KernelIdeal (hKernelIdeal := hKernelIdeal)
    ∧ quiescent_KernelIdeal_pre_codebook (hKernelIdeal := hKernelIdeal) (hPre_codebook := hPre_codebook)
    ∧ quiescent_ReferenceIdeal (hReferenceIdeal := hReferenceIdeal)
    ∧ quiescent_ReferenceIdeal_pre_codebook (hReferenceIdeal := hReferenceIdeal) (hPre_codebook := hPre_codebook)
    ∧ preserves_Kernel_KernelIdeal
    ∧ algebraic_KernelIdeal_ReferenceIdeal_pre_codebook (hKernelIdeal := hKernelIdeal) (hReferenceIdeal := hReferenceIdeal) (hPre_codebook := hPre_codebook)
-- ==== Pre_codebook.lean ====
abbrev S4096x16384 : Shape := ⟨2, ![4096, 16384]⟩
abbrev S4 : Shape := ⟨1, ![4]⟩
abbrev S3 : Shape := ⟨1, ![3]⟩
abbrev S_ : Shape := ⟨0, ![]⟩
abbrev S1 : Shape := ⟨1, ![1]⟩

class Facts : Prop where
  slices_S4_S3_0 : S4.Slices ![0] S3
  slices_S4_S3_1 : S4.Slices ![1] S3
  reducesTo_S3_S_d0 : S3.ReducesTo [0] S_
  h_S_ : 0 < S_.numel
  slices_S4_S1_0 : S4.Slices ![0] S1
  shapeCasts_S1_S_ : S1.ShapeCasts S_
  slices_S4_S1_3 : S4.Slices ![3] S1

variable [Facts]

def fn {F : FTy → Type} [FloatOps F] (main_arg0 : FVec F S4096x16384 .f32) (main_arg1 : FVec F S4 .f32) : IVec S_ 1 :=
  let main_v0 : FVec F S3 .f32 := (extractStridedSlice S3 ![0] · slices_S4_S3_0) main_arg1
  let main_v1 : FVec F S3 .f32 := (extractStridedSlice S3 ![1] · slices_S4_S3_1) main_arg1
  let main_v2 : IVec S3 1 := cmpf .ole main_v0 main_v1
  let main_c : IVec S_ 1 := constantI S_ 1 1#1
  let main_v3 : IVec S_ 1 := (fun x v => Host.reduce IntOp.andi x v reducesTo_S3_S_d0 h_S_) main_v2 main_c
  let main_v4 : FVec F S1 .f32 := (extractStridedSlice S1 ![0] · slices_S4_S1_0) main_arg1
  let main_v5 : FVec F S_ .f32 := shapeCast S_ main_v4 shapeCasts_S1_S_
  let main_cst : FVec F S_ .f32 := constant S_ .f32 0xBF800000#32
  let main_v6 : IVec S_ 1 := cmpf .oge main_v5 main_cst
  let main_v7 : IVec S_ 1 := andi main_v3 main_v6
  let main_v8 : FVec F S1 .f32 := (extractStridedSlice S1 ![3] · slices_S4_S1_3) main_arg1
  let main_v9 : FVec F S_ .f32 := shapeCast S_ main_v8 shapeCasts_S1_S_
  let main_cst_0 : FVec F S_ .f32 := constant S_ .f32 0x3F800000#32
  let main_v10 : IVec S_ 1 := cmpf .ole main_v9 main_cst_0
  let main_v11 : IVec S_ 1 := andi main_v7 main_v10
  main_v11
-- ==== Kernel.lean ====
abbrev S4096x16384 : Shape := ⟨2, ![4096, 16384]⟩
abbrev S4 : Shape := ⟨1, ![4]⟩
abbrev S128x16384 : Shape := ⟨2, ![128, 16384]⟩
abbrev S1 : Shape := ⟨1, ![1]⟩

abbrev nBuf : Space → Nat
  | .hbm => 3
  | .vmem => 4
  | .smem => 1
  | _ => 0

abbrev bufTy : (tb : Table) → Fin (tcTables nBuf tb) → BufTy
  | .hbm, ⟨0, _⟩ => ⟨S4096x16384, .f32⟩
  | .hbm, ⟨1, _⟩ => ⟨S4, .f32⟩
  | .hbm, ⟨2, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | .local _ .smem, ⟨0, _⟩ => ⟨S4, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x16384 : Shape := ⟨2, ![4096, 16384]⟩
abbrev S4 : Shape := ⟨1, ![4]⟩
abbrev S_ : Shape := ⟨0, ![]⟩
abbrev S4096x16384x1 : Shape := ⟨3, ![4096, 16384, 1]⟩
abbrev S1x1x4 : Shape := ⟨3, ![1, 1, 4]⟩
abbrev S4096x16384x4 : Shape := ⟨3, ![4096, 16384, 4]⟩

abbrev nBuf : Space → Nat
  | .hbm => 32
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384x1, .f32⟩
  | .hbm, ⟨11, _⟩ => ⟨S1x1x4, .f32⟩
  | .hbm, ⟨12, _⟩ => ⟨S4096x16384x4, .f32⟩
  | .hbm, ⟨13, _⟩ => ⟨S4096x16384x4, .f32⟩
  | .hbm, ⟨14, _⟩ => ⟨S4096x16384x4, .f32⟩
  | .hbm, ⟨15, _⟩ => ⟨S4096x16384x4, .f32⟩
  | .hbm, ⟨16, _⟩ => ⟨S4096x16384x4, .i32⟩
  | .hbm, ⟨17, _⟩ => ⟨S_, .f32⟩
  | .hbm, ⟨18, _⟩ => ⟨S_, .i32⟩
  | .hbm, ⟨19, _⟩ => ⟨S4096x16384, .f32⟩
  | .hbm, ⟨20, _⟩ => ⟨S4096x16384, .i32⟩
  | .hbm, ⟨21, _⟩ => ⟨S_, .i32⟩
  | .hbm, ⟨22, _⟩ => ⟨S4096x16384, .i32⟩
  | .hbm, ⟨23, _⟩ => ⟨S4096x16384, .i1⟩
  | .hbm, ⟨24, _⟩ => ⟨S_, .i32⟩
  | .hbm, ⟨25, _⟩ => ⟨S4096x16384, .i32⟩
  | .hbm, ⟨26, _⟩ => ⟨S4096x16384, .i32⟩
  | .hbm, ⟨27, _⟩ => ⟨S4096x16384, .i32⟩
  | .hbm, ⟨28, _⟩ => ⟨S4096x16384x1, .i32⟩
  | .hbm, ⟨29, _⟩ => ⟨S4096x16384, .f32⟩
  | .hbm, ⟨30, _⟩ => ⟨S4096x16384, .f32⟩
  | .hbm, ⟨31, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_c : Ref sig .tc := ⟨.hbm, 18, rfl⟩
abbrev main_call1_v1_0 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]
-- ==== Proof.Threshold.lean ====
/- The level that three midpoint comparisons pick, as one function on the extended reals. Both programs are brought to
   this function: the kernel computes it as it stands, and the reference's nearest level equals it. -/
module

public import Idealize.ShloMosaic.PureOps.Ideal.Laws
public import Idealize.ShloMosaic.Lib.ValueIdx
public import Idealize.ShloMosaic.Lib.Pointwise.Select

@[expose] public section

noncomputable section

namespace Cert.Proof.Threshold

open Idealize.ShloMosaic

/-- The index of level `k` in the array of levels. -/
abbrev lvl (k : Fin 4) : (⟨1, ![4]⟩ : Shape).Idx := ValueIdx.ix1 k

/-- The midpoint of two levels, computed as half of their sum. -/
def mid (a b : EReal) : EReal := (1 / 2 : ℝ) * (a + b)

/-- Four levels `a b c d` and a number `x`: compare `x` with the middle midpoint first, then with the midpoint of the
    half it fell in; a number that lies on a midpoint goes to the lower level. -/
def pick (a b c d x : EReal) : EReal :=
  if x ≤ mid b c then (if x ≤ mid a b then a else b) else (if x ≤ mid c d then c else d)

/-- A select on "less than or equal" is the conditional on that order. -/
theorem select_ole (x y a b : EReal) : Scalar.select (Ideal.cmp .ole x y) a b = if x ≤ y then a else b := by
  unfold Scalar.select
  simp only [Ideal.cmp_ole_eq_one]

/-- The word `0x3F000000` is one half. -/
theorem half_bits : Ideal.ofBits .f32 0x3F000000#32 = ((1 / 2 : ℝ) : EReal) := by
  simp [Ideal.ofBits, Ideal.ieee, -EReal.coe_mul]; norm_num

/-- The word `0x3F800000` is one. -/
theorem one_bits : Ideal.ofBits .f32 0x3F800000#32 = ((1 : ℝ) : EReal) := by
  simp [Ideal.ofBits, Ideal.ieee, -EReal.coe_mul]; norm_num

/-- The word `0xBF800000` is minus one. -/
theorem negOne_bits : Ideal.ofBits .f32 0xBF800000#32 = ((-1 : ℝ) : EReal) := by
  simp [Ideal.ofBits, Ideal.ieee, -EReal.coe_mul]; norm_num

/-- The word `0x7F800000` is plus infinity. -/
theorem top_bits : Ideal.ofBits .f32 0x7F800000#32 = ⊤ := by
  simp [Ideal.ofBits, Ideal.ieee, -EReal.coe_mul]

end Cert.Proof.Threshold

end
-- ==== Proof.KernelValue.lean ====
/- What the quantizer kernel leaves in its result array: at every index the level that `Threshold.pick` chooses for the
   argument's entry there. The grid has 32 points; point `t` stores rows `128 t` to `128 t + 127` of the result whole,
   from the same rows of the argument and the four levels. -/
module

public import proofs.«01_k».proof.Proof.Threshold
public import proofs.«01_k».proof.Proof.Gen.KernelIdeal.Value

@[expose] public section

noncomputable section

namespace Cert.Proof.KernelValue

open Cert.KernelIdeal Cert.KernelIdeal.Gen Cert.KernelIdeal.Value
open Idealize.ShloMosaic Idealize.ShloMosaic.TcCoe Idealize.SL.Sem
open Cert.Proof.Threshold

/-- The result as a function of the levels and of an array of numbers, at any array shape. -/
def G {s : Shape} (l : Vec Ideal S4 .f32) (x : Vec Ideal s .f32) : Vec Ideal s .f32 := fun i =>
  pick (l (lvl 0)) (l (lvl 1)) (l (lvl 2)) (l (lvl 3)) (x i)

/-- The value the body stores is `pick` at every entry of the block. -/
theorem payload_eq (a b c d : EReal) (x : Vec Ideal S128x16384 .f32) :
    k0_pay1 (F := Ideal) a b c d x = fun i => pick a b c d (x i) := by
  funext i
  unfold pick mid
  rw [← half_bits]
  simp only [← select_ole]
  rfl

/-- The offset of a whole-block access is zero on both axes. -/
theorem origin_zero : (![0, 0] : Fin 2 → Nat) = fun _ => 0 := funext fun a => by fin_cases a <;> rfl

/-- One grid point's result block is `G` of the two input blocks. -/
theorem block_eq (c : Dev nD) (i : grid0.Coords) (arg1 : Memref sig .tc .smem S4 .f32) (h1 : arg1.IsWhole)
    (arg2 : Memref sig .tc .vmem S128x16384 .f32) (h2 : arg2.IsWhole)
    (arg3 : Memref sig .tc .vmem S128x16384 .f32) (h3 : arg3.IsWhole)
    (l : Vec Ideal S4 .f32) (x : Vec Ideal S128x16384 .f32) :
    out0_A_2 c i arg1 h1 arg2 h2 arg3 h3 l x = G l x := by
  unfold out0_A_2
  rw [View.read_writes_junk_eq_canon]
  show View.canon ([⟨Rect.unit ![0, 0] S128x16384.size inb_S128x16384_S128x16384_0_0,
      k0_pay1
        (View.readAt (Elt Ideal) arg1.view (Rect.unit (s := S4) ![0] S1.size inb_S4_S1_0).toLoadRect (h1.unread l) _)
        (View.readAt (Elt Ideal) arg1.view (Rect.unit (s := S4) ![1] S1.size inb_S4_S1_1).toLoadRect (h1.unread l) _)
        (View.readAt (Elt Ideal) arg1.view (Rect.unit (s := S4) ![2] S1.size inb_S4_S1_2).toLoadRect (h1.unread l) _)
        (View.readAt (Elt Ideal) arg1.view (Rect.unit (s := S4) ![3] S1.size inb_S4_S1_3).toLoadRect (h1.unread l) _)
        (View.readAt (Elt Ideal) arg2.view
          (Rect.unit ![0, 0] S128x16384.size inb_S128x16384_S128x16384_0_0).toLoadRect (h2.unread x))⟩] :
      List (View.Piece (Elt Ideal) S128x16384 .f32)) = _
  rw [View.canon_unit_zero origin_zero]
  simp only [View.readAt_eq_ld]
  rw [h1.read_unread, h2.read_unread, View.ld_unit_zero origin_zero]
  refine (payload_eq _ _ _ _ x).trans ?_
  funext j
  show pick (l _) (l _) (l _) (l _) (x j) = _
  unfold G
  congr 2 <;> exact funext fun a => by match a with | ⟨0, _⟩ => rfl

variable (m : (ℓ : Loc nD τ sig) → Buf (Elt Ideal) ℓ) (ρ : Dev nD → PrngReg)

/-- The levels' window stays at block zero. -/
theorem levels_index : ∀ t : Fin cfg0.N, win0_0.index t (0 : Fin 1) = 0 := (by decide +kernel : ∀ t : Fin grid0.N, _)

/-- The argument's window is at row block `t`, column block zero. -/
theorem arg_index : ∀ t : Fin cfg0.N, win0_1.index t (0 : Fin 2) = t.val ∧ win0_1.index t (1 : Fin 2) = 0 :=
  (by decide +kernel : ∀ t : Fin grid0.N, _)

/-- The result's window is at row block `t`, column block zero. -/
theorem result_index : ∀ t : Fin cfg0.N, win0_2.index t (0 : Fin 2) = t.val ∧ win0_2.index t (1 : Fin 2) = 0 :=
  (by decide +kernel : ∀ t : Fin grid0.N, _)

/-- Every point reads the whole array of levels. -/
theorem levels_block (c : Dev nD) (t : Fin cfg0.N) : iblk m c 0 t = V m c main_arg1 := by
  funext j
  show V m c main_arg1 (((cfg0.win 0).blk t).view.emb j) = V m c main_arg1 j
  congr 1
  have e := levels_index t
  funext a; apply Fin.ext
  match a with
  | ⟨0, _⟩ => show win0_0.index t (0 : Fin 1) * 4 + 1 * (j 0).val = (j 0).val; omega

/-- Entry `j` of the argument's block at `t` and entry `j` of the result's block at `t` have the same array index. -/
theorem same_entry (t : Fin cfg0.N) (j : S128x16384.Idx) :
    (((cfg0.win 1).blk t).view.emb j : S4096x16384.Idx) = ((cfg0.win 2).blk t).view.emb j := by
  obtain ⟨e0, e1⟩ := arg_index t
  obtain ⟨f0, f1⟩ := result_index t
  funext a; apply Fin.ext
  match a with
  | ⟨0, _⟩ =>
    show win0_1.index t (0 : Fin 2) * 128 + 1 * (j 0).val = win0_2.index t (0 : Fin 2) * 128 + 1 * (j 0).val
    rw [e0, f0]
  | ⟨1, _⟩ =>
    show win0_1.index t (1 : Fin 2) * 16384 + 1 * (j 1).val = win0_2.index t (1 : Fin 2) * 16384 + 1 * (j 1).val
    rw [e1, f1]

/-- What point `t` writes back is its block of `G` of the whole arrays. -/
theorem flushed_eq (c : Dev nD) (t : Fin cfg0.N) :
    (dats m 0 c).flushed 2 t
      = ((cfg0.win 2).blk t).view.read (Elt Ideal) (G (V m c main_arg1) (V m c main_arg0)) := by
  rw [flushed2_A, block_eq, levels_block]
  funext j
  show G (V m c main_arg1) (iblk m c 1 t) j
    = G (V m c main_arg1) (V m c main_arg0) (((cfg0.win 2).blk t).view.emb j)
  rw [← same_entry]
  rfl

/-- Every index of the result array lies in the block of the point `row / 128`. -/
theorem covered (i : S4096x16384.Idx) :
    ∃ t : Fin cfg0.N, (cfg0.win 2).flush t = true ∧ i ∈ ((cfg0.win 2).blk t).view.set := by
  have h0 : (i 0).val < 4096 := (i 0).isLt
  have h1 : (i 1).val < 16384 := (i 1).isLt
  let t : Fin cfg0.N := ⟨(i 0).val / 128, by show _ < grid0.N; rw [N_0]; omega⟩
  let j : S128x16384.Idx := fun a => match a with
    | ⟨0, _⟩ => ⟨(i 0).val % 128, Nat.mod_lt _ (by decide)⟩
    | ⟨1, _⟩ => ⟨(i 1).val, h1⟩
  refine ⟨t, flush0_2 t, ?_⟩
  have h : ((cfg0.win 2).blk t).view.emb j = i := by
    obtain ⟨f0, f1⟩ := result_index t
    funext a; apply Fin.ext
    match a with
    | ⟨0, _⟩ =>
      show win0_2.index t (0 : Fin 2) * 128 + 1 * ((i 0).val % 128) = (i 0).val
      rw [f0]; show (i 0).val / 128 * 128 + 1 * ((i 0).val % 128) = (i 0).val; omega
    | ⟨1, _⟩ =>
      show win0_2.index t (1 : Fin 2) * 16384 + 1 * (i 1).val = (i 1).val
      rw [f1]; omega
  rw [← h]
  exact ((cfg0.win 2).blk t).view.emb_mem_set j

/-- The result array after the whole grid is `G` of the levels and the argument as launched. -/
theorem final (c : Dev nD) : (dats m 0 c).arrAt 2 cfg0.N
    = G (m ((c : Thread nD τ).loc main_arg1)) (m ((c : Thread nD τ).loc main_arg0)) :=
  ((dats m 0 c).arrAt_eq_of_cover 2 (G (V m c main_arg1) (V m c main_arg0)) (fun t _ => flushed_eq m c t)
    covered).trans (by rw [V_main_arg0, V_main_arg1])

/-- The kernel's run: the result array ends at `G` of the arguments and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Proof.KernelValue

end
-- ==== Proof.Nearest.lean ====
/- The mathematics of the quantizer: among four levels in increasing order inside [-1, 1], the first level nearest to the
   clipped number is the level that the midpoint comparisons pick for the unclipped number. -/
module

public import proofs.«01_k».proof.Proof.Threshold

@[expose] public section

noncomputable section

namespace Cert.Proof.Nearest

open Cert.Proof.Threshold

/-- The midpoint of two real levels is real. -/
theorem mid_coe (a b : ℝ) : mid a b = ((1 / 2 * (a + b) : ℝ) : EReal) := by
  unfold mid; push_cast; rfl

/-- If a number is at least as near to the lower level, it is at most their midpoint or the levels coincide. -/
theorem le_mid_of_near {y a b : ℝ} (hab : a ≤ b) (h : |y - a| ≤ |y - b|) : y ≤ 1 / 2 * (a + b) ∨ a = b := by
  by_contra hc
  push Not at hc
  obtain ⟨h1, h2⟩ := hc
  have h3 : a < b := lt_of_le_of_ne hab h2
  rcases abs_cases (y - a) with ⟨e, _⟩ | ⟨e, _⟩ <;> rcases abs_cases (y - b) with ⟨f, _⟩ | ⟨f, _⟩ <;>
    rw [e, f] at h <;> linarith

/-- If a number is strictly nearer to the higher level, it lies above their midpoint. -/
theorem mid_lt_of_near {y a b : ℝ} (hab : a ≤ b) (h : |y - b| < |y - a|) : 1 / 2 * (a + b) < y := by
  rcases abs_cases (y - a) with ⟨e, _⟩ | ⟨e, _⟩ <;> rcases abs_cases (y - b) with ⟨f, _⟩ | ⟨f, _⟩ <;>
    rw [e, f] at h <;> linarith

/-- `k` is the first of four levels at the smallest distance from `y`. -/
def IsFirstNearest (r : Fin 4 → ℝ) (y : ℝ) (k : Fin 4) : Prop :=
  ∀ j, |y - r k| ≤ |y - r j| ∧ (|y - r j| = |y - r k| → k ≤ j)

/-- A level before the first nearest one is strictly farther. -/
theorem IsFirstNearest.lt {r : Fin 4 → ℝ} {y : ℝ} {k : Fin 4} (h : IsFirstNearest r y k) {j : Fin 4} (hj : j < k) :
    |y - r k| < |y - r j| :=
  lt_of_le_of_ne (h j).1 fun e => absurd ((h j).2 e.symm) (not_le.mpr hj)

/-- Levels in increasing order, the lowest at least -1 and the highest at most 1. -/
structure Codebook (r : Fin 4 → ℝ) : Prop where
  h01 : r 0 ≤ r 1
  h12 : r 1 ≤ r 2
  h23 : r 2 ≤ r 3
  low : -1 ≤ r 0
  high : r 3 ≤ 1

/-- For a real number the midpoint comparisons pick the first nearest level. -/
theorem pick_eq_of_nearest {r : Fin 4 → ℝ} (hr : Codebook r) {y : ℝ} {k : Fin 4} (h : IsFirstNearest r y k) :
    pick (r 0) (r 1) (r 2) (r 3) y = (r k : EReal) := by
  obtain ⟨h01, h12, h23, -, -⟩ := hr
  unfold pick
  simp only [mid_coe, EReal.coe_le_coe_iff]
  have key : (if y ≤ 1 / 2 * (r 1 + r 2) then (if y ≤ 1 / 2 * (r 0 + r 1) then r 0 else r 1)
      else (if y ≤ 1 / 2 * (r 2 + r 3) then r 2 else r 3)) = r k := by
    fin_cases k
    · have n1 := le_mid_of_near h01 (h 1).1
      have n2 := le_mid_of_near (h01.trans h12) (h 2).1
      have n3 := le_mid_of_near ((h01.trans h12).trans h23) (h 3).1
      simp only [Fin.zero_eta, Fin.isValue]
      split_ifs <;> rcases n1 with n1 | n1 <;> rcases n2 with n2 | n2 <;> rcases n3 with n3 | n3 <;> linarith
    · have n0 := mid_lt_of_near h01 (h.lt (j := 0) (by decide))
      have n2 := le_mid_of_near h12 (h 2).1
      have n3 := le_mid_of_near (h12.trans h23) (h 3).1
      simp only [Fin.mk_one, Fin.isValue] at *
      split_ifs <;> rcases n2 with n2 | n2 <;> rcases n3 with n3 | n3 <;> linarith
    · have n0 := mid_lt_of_near (h01.trans h12) (h.lt (j := 0) (by decide))
      have n1 := mid_lt_of_near h12 (h.lt (j := 1) (by decide))
      have n3 := le_mid_of_near h23 (h 3).1
      simp only [Fin.reduceFinMk, Fin.isValue] at *
      split_ifs <;> rcases n3 with n3 | n3 <;> linarith
    · have n0 := mid_lt_of_near ((h01.trans h12).trans h23) (h.lt (j := 0) (by decide))
      have n1 := mid_lt_of_near (h12.trans h23) (h.lt (j := 1) (by decide))
      have n2 := mid_lt_of_near h23 (h.lt (j := 2) (by decide))
      simp only [Fin.reduceFinMk, Fin.isValue] at *
      split_ifs <;> linarith
  rw [← key]
  split_ifs <;> rfl

/-- At or below -1 the midpoint comparisons pick the lowest level. -/
theorem pick_low {r : Fin 4 → ℝ} (hr : Codebook r) {x : EReal} (hx : x ≤ ((-1 : ℝ) : EReal)) :
    pick (r 0) (r 1) (r 2) (r 3) x = r 0 := by
  obtain ⟨h01, h12, h23, low, high⟩ := hr
  unfold pick
  simp only [mid_coe]
  rw [if_pos (hx.trans (EReal.coe_le_coe_iff.mpr (by linarith))),
    if_pos (hx.trans (EReal.coe_le_coe_iff.mpr (by linarith)))]

/-- Above 1 the midpoint comparisons pick the highest level. -/
theorem pick_high {r : Fin 4 → ℝ} (hr : Codebook r) {x : EReal} (hx : ((1 : ℝ) : EReal) < x) :
    pick (r 0) (r 1) (r 2) (r 3) x = r 3 := by
  obtain ⟨h01, h12, h23, low, high⟩ := hr
  unfold pick
  simp only [mid_coe]
  rw [if_neg (not_le.mpr (lt_of_le_of_lt (EReal.coe_le_coe_iff.mpr (by linarith)) hx)),
    if_neg (not_le.mpr (lt_of_le_of_lt (EReal.coe_le_coe_iff.mpr (by linarith)) hx))]

/-- At 1 the level picked has the value of the highest level: a midpoint that reaches 1 joins two levels equal to 1. -/
theorem pick_one {r : Fin 4 → ℝ} (hr : Codebook r) :
    pick (r 0) (r 1) (r 2) (r 3) ((1 : ℝ) : EReal) = r 3 := by
  obtain ⟨h01, h12, h23, low, high⟩ := hr
  unfold pick
  simp only [mid_coe, EReal.coe_le_coe_iff]
  split_ifs <;> first | rfl | exact EReal.coe_eq_coe_iff.mpr (by linarith)

/-- A number clipped to [-1, 1] is real, and clipping does not change the level picked. -/
theorem clip_real {r : Fin 4 → ℝ} (hr : Codebook r) (x : EReal) :
    ∃ y : ℝ, min ((1 : ℝ) : EReal) (max ((-1 : ℝ) : EReal) x) = y
      ∧ pick (r 0) (r 1) (r 2) (r 3) y = pick (r 0) (r 1) (r 2) (r 3) x := by
  have hlt : ((-1 : ℝ) : EReal) ≤ ((1 : ℝ) : EReal) := EReal.coe_le_coe_iff.mpr (by norm_num)
  rcases le_or_gt x ((-1 : ℝ) : EReal) with h | h
  · exact ⟨-1, by rw [max_eq_left h, min_eq_right hlt], by rw [pick_low hr le_rfl, pick_low hr h]⟩
  rcases lt_or_ge ((1 : ℝ) : EReal) x with h1 | h1
  · exact ⟨1, by rw [max_eq_right h.le, min_eq_left h1.le], by rw [pick_one hr, pick_high hr h1]⟩
  lift x to ℝ using ⟨ne_top_of_le_ne_top (EReal.coe_ne_top _) h1, ne_bot_of_gt h⟩
  exact ⟨x, by rw [max_eq_right h.le, min_eq_right h1], rfl⟩

end Cert.Proof.Nearest

end
-- ==== Proof.Codebook.lean ====
/- What the precondition says of the levels: they are four real numbers in increasing order inside [-1, 1]. -/
module

public import proofs.«01_k».proof.Proof.Nearest
public import proofs.«01_k».proof.Proof.Gen.Pre_codebook
public import Idealize.ShloMosaic.Lib.ReduceAll

@[expose] public section

noncomputable section

namespace Cert.Proof.CodebookPre

open Cert.Pre_codebook Idealize.ShloMosaic
open Cert.Proof.Threshold Cert.Proof.Nearest

/-- The conjunction of two bits is 1 only where both are. -/
theorem and_one {a b : BitVec 1} (h : IntOp.andi a b = 1#1) : a = 1#1 ∧ b = 1#1 := by
  revert a b; decide

/-- Where the precondition holds there are real levels `r` with the codebook's properties. -/
theorem codebook_of_pre (x : FVec Ideal S4096x16384 .f32) (l : FVec Ideal S4 .f32) (i : S_.Idx)
    (h : Pre_codebook.fn (F := Ideal) x l i = 1#1) : ∃ r : Fin 4 → ℝ, Codebook r ∧ ∀ k, l (lvl k) = r k := by
  obtain ⟨h, hhigh⟩ := and_one h
  obtain ⟨hsorted, hlow⟩ := and_one h
  haveI : Subsingleton S_.Idx := ⟨fun a b => funext fun z => z.elim0⟩
  have hs (k : Fin 3) : l (lvl k.castSucc) ≤ l (lvl k.succ) := by
    have e := (Ideal.cmp_ole_eq_one _ _).mp (Host.reduce_andi_all _ _ _ _ _ hsorted (ValueIdx.ix1 k))
    refine (congrArg l (funext fun a => Fin.ext ?_)).trans_le (e.trans_eq (congrArg l (funext fun a => Fin.ext ?_)))
    · match a with
      | ⟨0, _⟩ => exact (Nat.zero_add k.val).symm
    · match a with
      | ⟨0, _⟩ => exact Nat.add_comm 1 k.val
  have hl : ((-1 : ℝ) : EReal) ≤ l (lvl 0) := by
    have e := (Ideal.cmp_oge_eq_one _ _).mp hlow
    rw [← negOne_bits]
    refine e.trans_eq (congrArg l (funext fun a => Fin.ext ?_))
    match a with
    | ⟨0, _⟩ => exact (Nat.zero_add _).trans (Nat.lt_one_iff.mp (Fin.isLt _))
  have hh : l (lvl 3) ≤ ((1 : ℝ) : EReal) := by
    have e := (Ideal.cmp_ole_eq_one _ _).mp hhigh
    rw [← one_bits]
    refine (congrArg l (funext fun a => Fin.ext ?_)).trans_le e
    match a with
    | ⟨0, _⟩ => exact (congrArg (3 + ·) (Nat.lt_one_iff.mp (Fin.isLt _))).symm
  have h01 : l (lvl 0) ≤ l (lvl 1) := hs 0
  have h12 : l (lvl 1) ≤ l (lvl 2) := hs 1
  have h23 : l (lvl 2) ≤ l (lvl 3) := hs 2
  have hreal (k : Fin 4) : ∃ r : ℝ, l (lvl k) = r := by
    have hge : ((-1 : ℝ) : EReal) ≤ l (lvl k) := by
      fin_cases k
      exacts [hl, hl.trans h01, (hl.trans h01).trans h12, ((hl.trans h01).trans h12).trans h23]
    have hle : l (lvl k) ≤ ((1 : ℝ) : EReal) := by
      fin_cases k
      exacts [((h01.trans h12).trans h23).trans hh, (h12.trans h23).trans hh, h23.trans hh, hh]
    exact ⟨_, (EReal.coe_toReal (ne_top_of_le_ne_top (EReal.coe_ne_top _) hle)
      (ne_bot_of_le_ne_bot (EReal.coe_ne_bot _) hge)).symm⟩
  choose r hr using hreal
  refine ⟨r, ⟨?_, ?_, ?_, ?_, ?_⟩, hr⟩ <;> apply EReal.coe_le_coe_iff.mp <;> simp only [← hr]
  exacts [h01, h12, h23, hl, hh]

end Cert.Proof.CodebookPre

end
-- ==== Proof.ArgMin.lean ====
/- The reference's arg-min read on its list of pairs (distance, index): the reduction's body keeps the smaller distance
   and, between equal distances, the smaller index; so a fold of it ends at a pair that no other pair beats. -/
module

public import proofs.«01_k».proof.Proof.Gen.ReferenceIdeal
public import Idealize.ShloMosaic.PureOps.Ideal.Laws
public import Idealize.ShloMosaic.Lib.Pointwise.Select

@[expose] public section

noncomputable section

namespace Cert.Proof.ArgMin

open Cert.ReferenceIdeal Idealize.ShloMosaic

/-- An arg-min on the extended reals is the fold of its body over the pairs that reduce to the index. -/
theorem argReduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) :
    Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

/-- Pair `p` comes no later than pair `q`: a smaller distance, or the same distance and an index no larger. -/
def NoLater (p q : EReal × BitVec 32) : Prop := p.1 < q.1 ∨ (p.1 = q.1 ∧ p.2.toInt ≤ q.2.toInt)

theorem NoLater.refl (p : EReal × BitVec 32) : NoLater p p := .inr ⟨rfl, le_rfl⟩

theorem NoLater.trans {p q s : EReal × BitVec 32} (h : NoLater p q) (h' : NoLater q s) : NoLater p s := by
  rcases h with h | ⟨h, g⟩ <;> rcases h' with h' | ⟨h', g'⟩
  · exact .inl (h.trans h')
  · exact .inl (h' ▸ h)
  · exact .inl (h ▸ h')
  · exact .inr ⟨h.trans h', g.trans g'⟩

/-- The reduction's body returns one of its two pairs, and that pair comes no later than the other. -/
theorem body_spec (p q : EReal × BitVec 32) :
    (reducer_argmin_f32_i32 (F := Ideal) p q = p ∧ NoLater p q)
      ∨ (reducer_argmin_f32_i32 (F := Ideal) p q = q ∧ NoLater q p) := by
  obtain ⟨v, i⟩ := p
  obtain ⟨w, j⟩ := q
  unfold reducer_argmin_f32_i32
  simp only [Ideal.cmpf_def, Ideal.cmp_olt, Ideal.cmp_oeq, Ideal.cmp, IntOp.ori, IntOp.andi, IntOp.cmpi,
    Scalar.select, BitVec.slt, NoLater]
  rcases lt_trichotomy v w with h | h | h
  · left; simp [h, h.ne]
  · subst h
    rcases lt_or_ge i.toInt j.toInt with g | g
    · left; simp [g, g.le]
    · right; simp [g, not_lt.mpr g]
  · right; simp [h, h.not_gt, h.ne']

/-- A fold of the body from `init` over `L` ends at `init` or at a member of `L`, and no later than `init` and every
    member of `L`. -/
theorem fold_spec (L : List (EReal × BitVec 32)) (init : EReal × BitVec 32) :
    (L.foldl (reducer_argmin_f32_i32 (F := Ideal)) init = init ∨ L.foldl (reducer_argmin_f32_i32 (F := Ideal)) init ∈ L)
      ∧ NoLater (L.foldl (reducer_argmin_f32_i32 (F := Ideal)) init) init
      ∧ ∀ q ∈ L, NoLater (L.foldl (reducer_argmin_f32_i32 (F := Ideal)) init) q := by
  induction L generalizing init with
  | nil => exact ⟨.inl rfl, NoLater.refl _, fun _ h => absurd h List.not_mem_nil⟩
  | cons a L ih =>
    simp only [List.foldl_cons]
    obtain ⟨hmem, hinit, hall⟩ := ih (reducer_argmin_f32_i32 (F := Ideal) init a)
    rcases body_spec init a with ⟨e, g⟩ | ⟨e, g⟩ <;> rw [e] at hmem hinit hall ⊢
    · refine ⟨hmem.imp id (List.mem_cons_of_mem _), hinit, fun q hq => ?_⟩
      rcases List.mem_cons.mp hq with rfl | hq
      exacts [hinit.trans g, hall q hq]
    · refine ⟨.inr ?_, hinit.trans g, fun q hq => ?_⟩
      · rcases hmem with h | h
        exacts [by rw [h]; exact List.mem_cons_self, List.mem_cons_of_mem _ h]
      rcases List.mem_cons.mp hq with rfl | hq
      exacts [hinit, hall q hq]

end Cert.Proof.ArgMin

end
-- ==== Proof.ReferenceRun.lean ====
/- The reference's run: it calls no kernel, so its result array is its host operations composed, in the order of the
   program. The composition is stated in the stages of the mathematics: clip, distances, nearest index, level. -/
module

public import proofs.«01_k».proof.Proof.Gen.ReferenceIdeal
public import Idealize.ShloMosaic.Lib.Claim
public import Idealize.ShloMosaic.PureOps.Ideal.Laws

@[expose] public section

noncomputable section

namespace Cert.Proof.ReferenceRun

open Cert.ReferenceIdeal Cert.ReferenceIdeal.Gen
open Idealize.ShloMosaic Idealize.ShloMosaic.TcCoe Idealize.SL.Sem

/-- The argument clipped to the interval from -1 to 1. -/
def clipped (x : FVec Ideal S4096x16384 .f32) : FVec Ideal S4096x16384 .f32 :=
  minimumf (broadcastInDim S4096x16384 ![] bcast_S_S4096x16384 (constant (F := Ideal) S_ .f32 0x3F800000#32))
    (maximumf (broadcastInDim S4096x16384 ![] bcast_S_S4096x16384 (constant (F := Ideal) S_ .f32 0xBF800000#32)) x)

/-- The distance of every clipped number to every level. -/
def distances (x : FVec Ideal S4096x16384 .f32) (l : FVec Ideal S4 .f32) : FVec Ideal S4096x16384x4 .f32 :=
  Host.absf (subf
    (broadcastInDim S4096x16384x4 ![0, 1, 2] bcast_S4096x16384x1_S4096x16384x4_0_1_2
      (broadcastInDim S4096x16384x1 ![0, 1] bcast_S4096x16384_S4096x16384x1_0_1 (clipped x)))
    (broadcastInDim S4096x16384x4 ![0, 1, 2] bcast_S1x1x4_S4096x16384x4_0_1_2
      (broadcastInDim S1x1x4 ![2] bcast_S4_S1x1x4_2 l)))

/-- The smallest distance, with the index of the first level at that distance. -/
def nearestPair (x : FVec Ideal S4096x16384 .f32) (l : FVec Ideal S4 .f32) : S4096x16384.Idx → EReal × BitVec 32 :=
  Host.argReduce (F := Ideal) (φ := .f32) reducer_argmin_f32_i32 (distances x l) (iotaInDim S4096x16384x4 32 2)
    (constant (F := Ideal) S_ .f32 0x7F800000#32) (constantI S_ 32 0#32) reducesTo_S4096x16384x4_S4096x16384_d2 h_S_

/-- The second components of an array of pairs. -/
def seconds {s : Shape} {α β : Type} (p : s.Idx → α × β) : s.Idx → β := fun j => (p j).2

/-- The index of the first level at the smallest distance. -/
def nearest (x : FVec Ideal S4096x16384 .f32) (l : FVec Ideal S4 .f32) : IVec S4096x16384 32 :=
  seconds (nearestPair x l)

/-- That index counted from the end if it were negative, as array indexing reads it. -/
def place (x : FVec Ideal S4096x16384 .f32) (l : FVec Ideal S4 .f32) : IVec S4096x16384 32 :=
  select (cmpi .slt (nearest x l) (broadcastInDim S4096x16384 ![] bcast_S_S4096x16384 (constantI S_ 32 0#32)))
    (addi (nearest x l) (broadcastInDim S4096x16384 ![] bcast_S_S4096x16384 (constantI S_ 32 4#32))) (nearest x l)

/-- The level at that index. -/
def level (x : FVec Ideal S4096x16384 .f32) (l : FVec Ideal S4 .f32) : FVec Ideal S4096x16384 .f32 :=
  Host.gather gather_S4_S4096x16384x1_S4096x16384_n_0_n_n_0_2_1 l
    (broadcastInDim S4096x16384x1 ![0, 1] bcast_S4096x16384_S4096x16384x1_0_1 (place x l))

/-- The reference's result: the clipped number plus the difference between its level and itself. -/
def result (x : FVec Ideal S4096x16384 .f32) (l : FVec Ideal S4 .f32) : FVec Ideal S4096x16384 .f32 :=
  addf (clipped x) (subf (level x l) (clipped x))

variable (m : (ℓ : Loc nD τ sig) → Buf (Elt Ideal) ℓ) (ρ : Dev nD → PrngReg)

/-- The reference's run: the result array ends at `result` of the arguments and the arguments are unchanged. -/
theorem run : θ_run defs (onTc (τ := τ) (main (F := Ideal))) ⟨m, fun _ => 0, ρ⟩ fun r => ∀ c : Dev nD,
      r.2.mem ((c : Thread nD τ).loc main_v16)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  rfl

end Cert.Proof.ReferenceRun

end
-- ==== Proof.ReferenceValue.lean ====
/- The reference's result read at an index: where the levels are a codebook it is the level that the midpoint comparisons
   pick for the argument's entry there. -/
module

public import proofs.«01_k».proof.Proof.Nearest
public import proofs.«01_k».proof.Proof.ArgMin
public import proofs.«01_k».proof.Proof.ReferenceRun

@[expose] public section

noncomputable section

namespace Cert.Proof.ReferenceValue

open Cert.ReferenceIdeal Cert.ReferenceIdeal.Gen Idealize.ShloMosaic
open Cert.Proof.Threshold Cert.Proof.Nearest Cert.Proof.ArgMin Cert.Proof.ReferenceRun

variable (x : FVec Ideal S4096x16384 .f32) (l : FVec Ideal S4 .f32) (j : S4096x16384.Idx)

/-- The clipped argument at an index. -/
theorem clipped_apply : clipped x j = min ((1 : ℝ) : EReal) (max ((-1 : ℝ) : EReal) (x j)) := by
  rw [← one_bits, ← negOne_bits]; rfl

/-- The result index with `k` on the levels' axis. -/
abbrev entry (k : Fin 4) : S4096x16384x4.Idx := ValueIdx.ix3 (j 0) (j 1) k

/-- Dropping the levels' axis takes an index to the result index it extends. -/
theorem drop_entry (k : Fin 4) : reducesTo_S4096x16384x4_S4096x16384_d2.drop (entry j k) = j := by
  funext b; apply Fin.ext
  match b with
  | ⟨0, _⟩ => exact Shape.ReducesTo.drop_apply_val_of_eq reducesTo_S4096x16384x4_S4096x16384_d2 (entry j k) 0 0
  | ⟨1, _⟩ => exact Shape.ReducesTo.drop_apply_val_of_eq reducesTo_S4096x16384x4_S4096x16384_d2 (entry j k) 1 1

/-- Every index that drops to `j` is `j` with some `k` on the levels' axis. -/
theorem eq_entry (i : S4096x16384x4.Idx) (h : reducesTo_S4096x16384x4_S4096x16384_d2.drop i = j) :
    i = entry j (i 2) := by
  subst h
  funext b; apply Fin.ext
  match b with
  | ⟨0, _⟩ => exact (Shape.ReducesTo.drop_apply_val_of_eq reducesTo_S4096x16384x4_S4096x16384_d2 i 0 0).symm
  | ⟨1, _⟩ => exact (Shape.ReducesTo.drop_apply_val_of_eq reducesTo_S4096x16384x4_S4096x16384_d2 i 1 1).symm
  | ⟨2, _⟩ => rfl

/-- The distance at `j` to level `k`. -/
theorem distances_apply (k : Fin 4) :
    distances x l (entry j k) = max (clipped x j - l (lvl k)) (-(clipped x j - l (lvl k))) := by
  have e1 : (broadcastInDim S4096x16384x4 ![0, 1, 2] bcast_S4096x16384x1_S4096x16384x4_0_1_2
      (broadcastInDim S4096x16384x1 ![0, 1] bcast_S4096x16384_S4096x16384x1_0_1 (clipped x))) (entry j k)
      = clipped x j :=
    congrArg (clipped x) (funext fun a => by match a with | ⟨0, _⟩ => rfl | ⟨1, _⟩ => rfl)
  have e2 : (broadcastInDim S4096x16384x4 ![0, 1, 2] bcast_S1x1x4_S4096x16384x4_0_1_2
      (broadcastInDim S1x1x4 ![2] bcast_S4_S1x1x4_2 l)) (entry j k) = l (lvl k) :=
    congrArg l (funext fun a => by match a with | ⟨0, _⟩ => rfl)
  rw [← e1, ← e2]; rfl

/-- The word of a level's index, read signed, is the index. -/
theorem index_toInt : ∀ k : Fin 4, (BitVec.ofNat 32 k.val).toInt = k.val := by decide

/-- The pairs that the arg-min at `j` folds over are the four levels' distances with their indices. -/
theorem mem_fiber (p : EReal × BitVec 32) :
    p ∈ Host.argReduceFiber (distances x l) (iotaInDim S4096x16384x4 32 2) reducesTo_S4096x16384x4_S4096x16384_d2 j
      ↔ ∃ k : Fin 4, p = (distances x l (entry j k), BitVec.ofNat 32 k.val) := by
  unfold Host.argReduceFiber
  simp only [List.mem_map, List.mem_filter, List.mem_finRange, true_and, decide_eq_true_eq]
  constructor
  · rintro ⟨n, hn, rfl⟩
    refine ⟨S4096x16384x4.rowMajor.symm n 2, ?_⟩
    rw [← eq_entry j _ hn]; rfl
  · rintro ⟨k, rfl⟩
    refine ⟨S4096x16384x4.rowMajor (entry j k), ?_, ?_⟩
    · rw [Equiv.symm_apply_apply]; exact drop_entry j k
    · rw [Equiv.symm_apply_apply]; rfl

/-- The distance between two real numbers, as the reference computes it. -/
theorem dist_coe (y a : ℝ) : max ((y : EReal) - a) (-((y : EReal) - a)) = ((|y - a| : ℝ) : EReal) := by
  rw [abs_eq_max_neg, EReal.coe_strictMono.monotone.map_max]; push_cast; rfl

/-- A fold of the arg-min's body from plus infinity, over exactly the four real distances with their indices, ends at the
    first nearest level's index. -/
theorem fold_nearest {r : Fin 4 → ℝ} {y : ℝ} (L : List (EReal × BitVec 32)) (init : EReal × BitVec 32) (hi : init.1 = ⊤)
    (hL : ∀ p, p ∈ L ↔ ∃ k : Fin 4, p = (((|y - r k| : ℝ) : EReal), BitVec.ofNat 32 k.val)) :
    ∃ k : Fin 4, (L.foldl (reducer_argmin_f32_i32 (F := Ideal)) init).2 = BitVec.ofNat 32 k.val
      ∧ IsFirstNearest r y k := by
  obtain ⟨hmem, -, hall⟩ := fold_spec L init
  have hbeat (k : Fin 4) := hall _ ((hL _).mpr ⟨k, rfl⟩)
  rcases hmem with e | hmem
  · exfalso
    have h := hbeat 0
    rw [e] at h
    rcases h with h | ⟨h, -⟩ <;> rw [hi] at h
    · exact not_top_lt h
    · exact EReal.coe_ne_top _ h.symm
  · obtain ⟨k, e⟩ := (hL _).mp hmem
    refine ⟨k, congrArg Prod.snd e, fun i => ?_⟩
    have h := hbeat i
    rw [e] at h
    simp only [NoLater, EReal.coe_lt_coe_iff, EReal.coe_eq_coe_iff, index_toInt] at h
    rcases h with h | ⟨h, g⟩
    · exact ⟨h.le, fun e' => absurd e' h.ne'⟩
    · exact ⟨h.le, fun _ => Fin.le_def.mpr (by exact_mod_cast g)⟩

/-- The arg-min at `j` is the fold of its body over its pairs, from plus infinity. -/
theorem nearestPair_fold : nearestPair x l j
    = (Host.argReduceFiber (distances x l) (iotaInDim S4096x16384x4 32 2) reducesTo_S4096x16384x4_S4096x16384_d2 j).foldl
        (reducer_argmin_f32_i32 (F := Ideal)) (Ideal.ofBits .f32 0x7F800000#32, 0#32) := by
  unfold nearestPair
  exact argReduce_fold (reducer_argmin_f32_i32 (F := Ideal)) (distances x l) (iotaInDim S4096x16384x4 32 2)
    (constant (F := Ideal) S_ .f32 0x7F800000#32) (constantI S_ 32 0#32) reducesTo_S4096x16384x4_S4096x16384_d2 h_S_ j

/-- The second component of an array of pairs at an index where the pair is known. -/
theorem seconds_of_eq {s : Shape} {α β : Type} (p : s.Idx → α × β) (i : s.Idx) (q : α × β) (h : p i = q) :
    seconds p i = q.2 :=
  congrArg Prod.snd h

/-- Where the clipped number and the levels are real, the arg-min at `j` is the first nearest level's index. -/
theorem nearest_apply {r : Fin 4 → ℝ} (hl : ∀ k, l (lvl k) = r k) {y : ℝ} (hy : clipped x j = y) :
    ∃ k : Fin 4, nearest x l j = BitVec.ofNat 32 k.val ∧ IsFirstNearest r y k := by
  have hd (k : Fin 4) : distances x l (entry j k) = ((|y - r k| : ℝ) : EReal) := by
    rw [distances_apply, hy, hl, dist_coe]
  have hL : ∀ p, p ∈ Host.argReduceFiber (distances x l) (iotaInDim S4096x16384x4 32 2)
      reducesTo_S4096x16384x4_S4096x16384_d2 j ↔ ∃ k : Fin 4, p = (((|y - r k| : ℝ) : EReal), BitVec.ofNat 32 k.val) :=
    fun p => (mem_fiber x l j p).trans (by simp only [hd])
  have hf := nearestPair_fold x l j
  -- from here on only the members of the list of pairs matter
  generalize Host.argReduceFiber (distances x l) (iotaInDim S4096x16384x4 32 2)
    reducesTo_S4096x16384x4_S4096x16384_d2 j = L at hL hf
  obtain ⟨k, hk, hn⟩ := fold_nearest L (Ideal.ofBits .f32 0x7F800000#32, 0#32) top_bits hL
  exact ⟨k, (seconds_of_eq (nearestPair x l) j _ hf).trans hk, hn⟩

/-- The level gathered at `j`, from the index the arg-min gives. -/
theorem level_apply {k : Fin 4} (h : nearest x l j = BitVec.ofNat 32 k.val) : level x l j = l (lvl k) := by
  have hp : place x l j = BitVec.ofNat 32 k.val := by
    show Scalar.select (IntOp.cmpi .slt (nearest x l j) 0#32) (IntOp.addi (nearest x l j) 4#32) (nearest x l j) = _
    rw [h]
    exact (by decide : ∀ k : Fin 4, Scalar.select (IntOp.cmpi .slt (BitVec.ofNat 32 k.val) 0#32)
      (IntOp.addi (BitVec.ofNat 32 k.val) 4#32) (BitVec.ofNat 32 k.val) = BitVec.ofNat 32 k.val) k
  refine (ValueIdx.gather_take_apply (N := 4) (R := 4096) (C := 16384) (by decide)
    gather_S4_S4096x16384x1_S4096x16384_n_0_n_n_0_2_1_wf l _ j).trans (congrArg l (congrArg ValueIdx.ix1 (Fin.ext ?_)))
  have e : (broadcastInDim S4096x16384x1 ![0, 1] bcast_S4096x16384_S4096x16384x1_0_1 (place x l)) (ValueIdx.takeIdx j)
      = place x l j :=
    congrArg (place x l) (funext fun a => by match a with | ⟨0, _⟩ => rfl | ⟨1, _⟩ => rfl)
  show min (BitVec.toInt ((broadcastInDim S4096x16384x1 ![0, 1] bcast_S4096x16384_S4096x16384x1_0_1 (place x l))
    (ValueIdx.takeIdx j))).toNat (4 - 1) = k.val
  rw [e, hp, index_toInt]
  have := k.isLt
  simp only [Int.toNat_natCast]
  omega

/-- With a codebook for levels, the reference's result at `j` is the level picked for the argument's entry. -/
theorem result_apply {r : Fin 4 → ℝ} (hr : Codebook r) (hl : ∀ k, l (lvl k) = r k) :
    result x l j = pick (l (lvl 0)) (l (lvl 1)) (l (lvl 2)) (l (lvl 3)) (x j) := by
  obtain ⟨y, hy, hpick⟩ := clip_real hr (x j)
  rw [← clipped_apply] at hy
  obtain ⟨k, hk, hfirst⟩ := nearest_apply x l j hl hy
  unfold result
  show (clipped x j + (level x l j - clipped x j) : EReal) = _
  rw [level_apply x l j hk, hy]
  simp only [hl]
  rw [← hpick, pick_eq_of_nearest hr hfirst, ← EReal.coe_sub, ← EReal.coe_add, add_sub_cancel]

end Cert.Proof.ReferenceValue

end
-- ==== Proof.lean ====
/- The certificate's claims, put together. Both kernel programs run, leave their arguments as they were and end with
   every semaphore counter at zero; so does the reference; and where the levels are a codebook the kernel and the
   reference end with the same result array. The generated modules state the kernels' runs; `KernelValue` reads the
   kernel's result, `ReferenceRun` and `ReferenceValue` the reference's, `Codebook` the precondition. -/
module

public import proofs.«01_k».proof.Defs
public import proofs.«01_k».proof.Proof.Gen.Kernel.Frame
public import proofs.«01_k».proof.Proof.KernelValue
public import proofs.«01_k».proof.Proof.Codebook
public import proofs.«01_k».proof.Proof.ReferenceValue
public import Idealize.ShloMosaic.Lib.Quiescent

@[expose] public section

noncomputable section

namespace Cert.Proof

open Idealize.ShloMosaic Idealize.SL.Sem

/-- The reference ends with its arguments unchanged and every counter at zero, from any launch: it declares no
    semaphore. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (ReferenceRun.run m ρ)

/-- Where the levels are a codebook, the kernel and the reference end with the same result array. -/
theorem same_result : Cert.algebraic_KernelIdeal_ReferenceIdeal_pre_codebook
    (hKernelIdeal := Cert.KernelIdeal.Gen.facts) (hReferenceIdeal := Cert.ReferenceIdeal.Gen.facts)
    (hPre_codebook := Cert.Pre_codebook.Gen.facts) := by
  intro m ρ m' ρ' hpre hagree
  refine ⟨_, KernelValue.run m ρ, (θ_run Cert.ReferenceIdeal.defs _ _).mono
    (fun _ h c => ⟨(h c).1.trans ?_, (h c).2⟩) (ReferenceRun.run m' ρ')⟩
  rw [(hagree c).1, (hagree c).2]
  obtain ⟨r, hr, hl⟩ := CodebookPre.codebook_of_pre _ _ ValueIdx.ix0 (congrFun (hpre c) _)
  funext j
  exact ReferenceValue.result_apply _ _ j hr hl

/-- Every claim of the certificate. -/
theorem claim : Cert.Claim :=
  ⟨Cert.Kernel.Gen.facts, Cert.KernelIdeal.Gen.facts, Cert.ReferenceIdeal.Gen.facts, Cert.Pre_codebook.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    same_result⟩

end Cert.Proof

end
